-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S65536x64 : Shape := ⟨2, ![65536, 64]⟩
abbrev S16x1 : Shape := ⟨2, ![16, 1]⟩
abbrev S16x64 : Shape := ⟨2, ![16, 64]⟩
abbrev S_ : Shape := ⟨0, ![]⟩

class Facts : Prop where
  bcast_S_S16x64 : S_.BroadcastsInDim S16x64 (![] : Fin 0 → Fin S16x64.rank)
  reducesTo_S16x64_S_d0_1 : S16x64.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_

variable [Facts]

def fn {F : FTy → Type} [FloatOps F] (main_arg0 : FVec F S65536x64 .f32) (main_arg1 : FVec F S16x1 .f32) (main_arg2 : FVec F S16x64 .f32) (main_arg3 : FVec F S16x64 .f32) : IVec S_ 1 :=
  let main_cst : FVec F S_ .f32 := constant S_ .f32 0x00000000#32
  let main_v0 : FVec F S16x64 .f32 := broadcastInDim S16x64 ![] bcast_S_S16x64 main_cst
  let main_v1 : IVec S16x64 1 := cmpf .une main_arg3 main_v0
  let main_c : IVec S_ 1 := constantI S_ 1 1#1
  let main_v2 : IVec S_ 1 := (fun x v => Host.reduce IntOp.andi x v reducesTo_S16x64_S_d0_1 h_S_) main_v1 main_c
  let main_cst_0 : FVec F S_ .f32 := constant S_ .f32 0x7F800000#32
  let main_v3 : FVec F S16x1 .f32 := broadcastInDim S16x1 ![] bcast_S_S16x1 main_cst_0
  let main_v4 : IVec S16x1 1 := cmpf .olt main_arg1 main_v3
  let main_c_1 : IVec S_ 1 := constantI S_ 1 1#1
  let main_v5 : IVec S_ 1 := (fun x v => Host.reduce IntOp.andi x v reducesTo_S16x1_S_d0_1 h_S_) main_v4 main_c_1
  let main_v6 : IVec S_ 1 := andi main_v2 main_v5
  main_v6
-- ==== Kernel.lean ====
abbrev S65536x64 : Shape := ⟨2, ![65536, 64]⟩
abbrev S16x1 : Shape := ⟨2, ![16, 1]⟩
abbrev S16x64 : Shape := ⟨2, ![16, 64]⟩
abbrev S65536 : Shape := ⟨1, ![65536]⟩
abbrev S16384x64 : Shape := ⟨2, ![16384, 64]⟩
abbrev S16384 : Shape := ⟨1, ![16384]⟩
abbrev S16 : Shape := ⟨1, ![16]⟩
abbrev S16x16384 : Shape := ⟨2, ![16, 16384]⟩
abbrev S1x16384 : Shape := ⟨2, ![1, 16384]⟩

abbrev nBuf : Space → Nat
  | .hbm => 5
  | .vmem => 10
  | .smem => 0
  | _ => 0

abbrev bufTy : (tb : Table) → Fin (tcTables nBuf tb) → BufTy
  | .hbm, ⟨0, _⟩ => ⟨S65536x64, .f32⟩
  | .hbm, ⟨1, _⟩ => ⟨S16x1, .f32⟩
  | .hbm, ⟨2, _⟩ => ⟨S16x64, .f32⟩
  | .hbm, ⟨3, _⟩ => ⟨S16x64, .f32⟩
  | .hbm, ⟨4, _⟩ => ⟨S65536, .f32⟩
  | .local _ .vmem, ⟨0, _⟩ => ⟨S16384x64, .f32⟩
  | .local _ .vmem, ⟨1, _⟩ => ⟨S16384x64, .f32⟩
  | .local _ .vmem, ⟨2, _⟩ => ⟨S16x1, .f32⟩
  | .local _ .vmem, ⟨3, _⟩ => ⟨S16x64, .f32⟩
  | .local _ .vmem, ⟨4, _⟩ => ⟨S16x64, .f32⟩
  | .local _ .vmem, ⟨5, _⟩ => ⟨S16384, .f32⟩
  | .local _ .vmem, ⟨6, _⟩ => ⟨S16384, .f32⟩
  | .local _ .vmem, ⟨7, _⟩ => ⟨S16x64, .bf16⟩
  | .local _ .vmem, ⟨8, _⟩ => ⟨S16x64, .bf16⟩
  | .local _ .vmem, ⟨9, _⟩ => ⟨S16x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x64 : Shape := ⟨2, ![65536, 64]⟩
abbrev S16x1 : Shape := ⟨2, ![16, 1]⟩
abbrev S16x64 : Shape := ⟨2, ![16, 64]⟩
abbrev S16 : Shape := ⟨1, ![16]⟩
abbrev S16x1x64 : Shape := ⟨3, ![16, 1, 64]⟩
abbrev S1x65536x64 : Shape := ⟨3, ![1, 65536, 64]⟩
abbrev S16x65536x64 : Shape := ⟨3, ![16, 65536, 64]⟩
abbrev S_ : Shape := ⟨0, ![]⟩
abbrev S16x65536 : Shape := ⟨2, ![16, 65536]⟩
abbrev S16x32 : Shape := ⟨2, ![16, 32]⟩
abbrev S16x16 : Shape := ⟨2, ![16, 16]⟩
abbrev S16x8 : Shape := ⟨2, ![16, 8]⟩
abbrev S16x4 : Shape := ⟨2, ![16, 4]⟩
abbrev S16x2 : Shape := ⟨2, ![16, 2]⟩
abbrev S65536 : Shape := ⟨1, ![65536]⟩
abbrev S1x65536 : Shape := ⟨2, ![1, 65536]⟩

abbrev nBuf : Space → Nat
  | .hbm => 72
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S16x1, .f32⟩
  | .hbm, ⟨2, _⟩ => ⟨S16x64, .f32⟩
  | .hbm, ⟨3, _⟩ => ⟨S16x64, .f32⟩
  | .hbm, ⟨4, _⟩ => ⟨S16, .f32⟩
  | .hbm, ⟨5, _⟩ => ⟨S16, .f32⟩
  | .hbm, ⟨6, _⟩ => ⟨S16x1x64, .f32⟩
  | .hbm, ⟨7, _⟩ => ⟨S1x65536x64, .f32⟩
  | .hbm, ⟨8, _⟩ => ⟨S16x65536x64, .f32⟩
  | .hbm, ⟨9, _⟩ => ⟨S16x65536x64, .f32⟩
  | .hbm, ⟨10, _⟩ => ⟨S16x65536x64, .f32⟩
  | .hbm, ⟨11, _⟩ => ⟨S16x65536x64, .f32⟩
  | .hbm, ⟨12, _⟩ => ⟨S16x64, .f32⟩
  | .hbm, ⟨13, _⟩ => ⟨S16x1x64, .f32⟩
  | .hbm, ⟨14, _⟩ => ⟨S16x65536x64, .f32⟩
  | .hbm, ⟨15, _⟩ => ⟨S16x65536x64, .f32⟩
  | .hbm, ⟨16, _⟩ => ⟨S_, .f32⟩
  | .hbm, ⟨17, _⟩ => ⟨S16x65536, .f32⟩
  | .hbm, ⟨18, _⟩ => ⟨S16x64, .f32⟩
  | .hbm, ⟨19, _⟩ => ⟨S16x32, .f32⟩
  | .hbm, ⟨20, _⟩ => ⟨S16x32, .f32⟩
  | .hbm, ⟨21, _⟩ => ⟨S16x32, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x8, .f32⟩
  | .hbm, ⟨26, _⟩ => ⟨S16x8, .f32⟩
  | .hbm, ⟨27, _⟩ => ⟨S16x8, .f32⟩
  | .hbm, ⟨28, _⟩ => ⟨S16x4, .f32⟩
  | .hbm, ⟨29, _⟩ => ⟨S16x4, .f32⟩
  | .hbm, ⟨30, _⟩ => ⟨S16x4, .f32⟩
  | .hbm, ⟨31, _⟩ => ⟨S16x2, .f32⟩
  | .hbm, ⟨32, _⟩ => ⟨S16x2, .f32⟩
  | .hbm, ⟨33, _⟩ => ⟨S16x2, .f32⟩
  | .hbm, ⟨34, _⟩ => ⟨S16x1, .f32⟩
  | .hbm, ⟨35, _⟩ => ⟨S16x1, .f32⟩
  | .hbm, ⟨36, _⟩ => ⟨S16x1, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16x65536, .f32⟩
  | .hbm, ⟨41, _⟩ => ⟨S16x65536, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S16x1, .f32⟩
  | .hbm, ⟨49, _⟩ => ⟨S16x65536, .f32⟩
  | .hbm, ⟨50, _⟩ => ⟨S16x65536, .f32⟩
  | .hbm, ⟨51, _⟩ => ⟨S16x1, .f32⟩
  | .hbm, ⟨52, _⟩ => ⟨S16x65536, .f32⟩
  | .hbm, ⟨53, _⟩ => ⟨S16x65536, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .i1⟩
  | .hbm, ⟨60, _⟩ => ⟨S_, .f32⟩
  | .hbm, ⟨61, _⟩ => ⟨S_, .f32⟩
  | .hbm, ⟨62, _⟩ => ⟨S65536, .f32⟩
  | .hbm, ⟨63, _⟩ => ⟨S65536, .f32⟩
  | .hbm, ⟨64, _⟩ => ⟨S1x65536, .f32⟩
  | .hbm, ⟨65, _⟩ => ⟨S16x65536, .f32⟩
  | .hbm, ⟨66, _⟩ => ⟨S16x65536, .f32⟩
  | .hbm, ⟨67, _⟩ => ⟨S16x65536, .f32⟩
  | .hbm, ⟨68, _⟩ => ⟨S_, .f32⟩
  | .hbm, ⟨69, _⟩ => ⟨S65536, .f32⟩
  | .hbm, ⟨70, _⟩ => ⟨S65536, .f32⟩
  | .hbm, ⟨71, _⟩ => ⟨S65536, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Proof.RefRun.lean ====
/-
  The run of the reference: its list of host operations, cut into four stretches, and the array that each stretch leaves.
  The result is stated as a composition of four named functions, `refLogw`, `refQuad`, `refLogdet` (joined by `refComp`) and `refLse`,
  so that the product over the 64 deviations is written once.
-/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference that compute the logarithms of the weights and the quadratic form. -/
abbrev opsQuad : List (HloOp τ sig (Elt F)) :=
  [ reshape main_arg1 main_v0 (rfl : (.f32 : EltTy) = .f32) shapeCasts_S16x1_S16,
    unary main_v0 main_v1 (Host.log : (⟨S16, .f32⟩ : BufTy).Contents (Elt F) → (⟨S16, .f32⟩ : BufTy).Contents (Elt F)),
    unary main_arg2 main_v2 (broadcastInDim S16x1x64 ![0, 2] bcast_S16x64_S16x1x64_0_2 : (⟨S16x64, .f32⟩ : BufTy).Contents (Elt F) → (⟨S16x1x64, .f32⟩ : BufTy).Contents (Elt F)),
    unary main_arg0 main_v3 (broadcastInDim S1x65536x64 ![1, 2] bcast_S65536x64_S1x65536x64_1_2 : (⟨S65536x64, .f32⟩ : BufTy).Contents (Elt F) → (⟨S1x65536x64, .f32⟩ : BufTy).Contents (Elt F)),
    unary main_v3 main_v4 (broadcastInDim S16x65536x64 ![0, 1, 2] bcast_S1x65536x64_S16x65536x64_0_1_2 : (⟨S1x65536x64, .f32⟩ : BufTy).Contents (Elt F) → (⟨S16x65536x64, .f32⟩ : BufTy).Contents (Elt F)),
    unary main_v2 main_v5 (broadcastInDim S16x65536x64 ![0, 1, 2] bcast_S16x1x64_S16x65536x64_0_1_2 : (⟨S16x1x64, .f32⟩ : BufTy).Contents (Elt F) → (⟨S16x65536x64, .f32⟩ : BufTy).Contents (Elt F)),
    binary main_v4 main_v5 main_v6 (subf : (⟨S16x65536x64, .f32⟩ : BufTy).Contents (Elt F) → (⟨S16x65536x64, .f32⟩ : BufTy).Contents (Elt F) → (⟨S16x65536x64, .f32⟩ : BufTy).Contents (Elt F)),
    binary main_v6 main_v6 main_v7 (mulf : (⟨S16x65536x64, .f32⟩ : BufTy).Contents (Elt F) → (⟨S16x65536x64, .f32⟩ : BufTy).Contents (Elt F) → (⟨S16x65536x64, .f32⟩ : BufTy).Contents (Elt F)),
    binary main_arg3 main_arg3 main_v8 (mulf : (⟨S16x64, .f32⟩ : BufTy).Contents (Elt F) → (⟨S16x64, .f32⟩ : BufTy).Contents (Elt F) → (⟨S16x64, .f32⟩ : BufTy).Contents (Elt F)),
    unary main_v8 main_v9 (broadcastInDim S16x1x64 ![0, 2] bcast_S16x64_S16x1x64_0_2 : (⟨S16x64, .f32⟩ : BufTy).Contents (Elt F) → (⟨S16x1x64, .f32⟩ : BufTy).Contents (Elt F)),
    unary main_v9 main_v10 (broadcastInDim S16x65536x64 ![0, 1, 2] bcast_S16x1x64_S16x65536x64_0_1_2 : (⟨S16x1x64, .f32⟩ : BufTy).Contents (Elt F) → (⟨S16x65536x64, .f32⟩ : BufTy).Contents (Elt F)),
    binary main_v7 main_v10 main_v11 (Host.divf : (⟨S16x65536x64, .f32⟩ : BufTy).Contents (Elt F) → (⟨S16x65536x64, .f32⟩ : BufTy).Contents (Elt F) → (⟨S16x65536x64, .f32⟩ : BufTy).Contents (Elt F)),
    nullary main_cst (constant S_ .f32 0x00000000#32),
    binary main_v11 main_cst main_v12 ((fun x v => Host.reduceAdd x v reducesTo_S16x65536x64_S16x65536_d2 h_S_) : (⟨S16x65536x64, .f32⟩ : BufTy).Contents (Elt F) → (⟨S_, .f32⟩ : BufTy).Contents (Elt F) → (⟨S16x65536, .f32⟩ : BufTy).Contents (Elt F)) ]

/-- The operations of the reference that compute the logarithm of the product of the squared deviations. -/
abbrev opsDet : List (HloOp τ sig (Elt F)) :=
  [ binary main_arg3 main_arg3 main_v13 (mulf : (⟨S16x64, .f32⟩ : BufTy).Contents (Elt F) → (⟨S16x64, .f32⟩ : BufTy).Contents (Elt F) → (⟨S16x64, .f32⟩ : BufTy).Contents (Elt F)),
    unary main_v13 main_v14 ((extractStridedSlice S16x32 ![0, 0] · slices_S16x64_S16x32_0_0) : (⟨S16x64, .f32⟩ : BufTy).Contents (Elt F) → (⟨S16x32, .f32⟩ : BufTy).Contents (Elt F)),
    unary main_v13 main_v15 ((extractStridedSlice S16x32 ![0, 32] · slices_S16x64_S16x32_0_32) : (⟨S16x64, .f32⟩ : BufTy).Contents (Elt F) → (⟨S16x32, .f32⟩ : BufTy).Contents (Elt F)),
    binary main_v14 main_v15 main_v16 (mulf : (⟨S16x32, .f32⟩ : BufTy).Contents (Elt F) → (⟨S16x32, .f32⟩ : BufTy).Contents (Elt F) → (⟨S16x32, .f32⟩ : BufTy).Contents (Elt F)),
    unary main_v16 main_v17 ((extractStridedSlice S16x16 ![0, 0] · slices_S16x32_S16x16_0_0) : (⟨S16x32, .f32⟩ : BufTy).Contents (Elt F) → (⟨S16x16, .f32⟩ : BufTy).Contents (Elt F)),
    unary main_v16 main_v18 ((extractStridedSlice S16x16 ![0, 16] · slices_S16x32_S16x16_0_16) : (⟨S16x32, .f32⟩ : BufTy).Contents (Elt F) → (⟨S16x16, .f32⟩ : BufTy).Contents (Elt F)),
    binary main_v17 main_v18 main_v19 (mulf : (⟨S16x16, .f32⟩ : BufTy).Contents (Elt F) → (⟨S16x16, .f32⟩ : BufTy).Contents (Elt F) → (⟨S16x16, .f32⟩ : BufTy).Contents (Elt F)),
    unary main_v19 main_v20 ((extractStridedSlice S16x8 ![0, 0] · slices_S16x16_S16x8_0_0) : (⟨S16x16, .f32⟩ : BufTy).Contents (Elt F) → (⟨S16x8, .f32⟩ : BufTy).Contents (Elt F)),
    unary main_v19 main_v21 ((extractStridedSlice S16x8 ![0, 8] · slices_S16x16_S16x8_0_8) : (⟨S16x16, .f32⟩ : BufTy).Contents (Elt F) → (⟨S16x8, .f32⟩ : BufTy).Contents (Elt F)),
    binary main_v20 main_v21 main_v22 (mulf : (⟨S16x8, .f32⟩ : BufTy).Contents (Elt F) → (⟨S16x8, .f32⟩ : BufTy).Contents (Elt F) → (⟨S16x8, .f32⟩ : BufTy).Contents (Elt F)),
    unary main_v22 main_v23 ((extractStridedSlice S16x4 ![0, 0] · slices_S16x8_S16x4_0_0) : (⟨S16x8, .f32⟩ : BufTy).Contents (Elt F) → (⟨S16x4, .f32⟩ : BufTy).Contents (Elt F)),
    unary main_v22 main_v24 ((extractStridedSlice S16x4 ![0, 4] · slices_S16x8_S16x4_0_4) : (⟨S16x8, .f32⟩ : BufTy).Contents (Elt F) → (⟨S16x4, .f32⟩ : BufTy).Contents (Elt F)),
    binary main_v23 main_v24 main_v25 (mulf : (⟨S16x4, .f32⟩ : BufTy).Contents (Elt F) → (⟨S16x4, .f32⟩ : BufTy).Contents (Elt F) → (⟨S16x4, .f32⟩ : BufTy).Contents (Elt F)),
    unary main_v25 main_v26 ((extractStridedSlice S16x2 ![0, 0] · slices_S16x4_S16x2_0_0) : (⟨S16x4, .f32⟩ : BufTy).Contents (Elt F) → (⟨S16x2, .f32⟩ : BufTy).Contents (Elt F)),
    unary main_v25 main_v27 ((extractStridedSlice S16x2 ![0, 2] · slices_S16x4_S16x2_0_2) : (⟨S16x4, .f32⟩ : BufTy).Contents (Elt F) → (⟨S16x2, .f32⟩ : BufTy).Contents (Elt F)),
    binary main_v26 main_v27 main_v28 (mulf : (⟨S16x2, .f32⟩ : BufTy).Contents (Elt F) → (⟨S16x2, .f32⟩ : BufTy).Contents (Elt F) → (⟨S16x2, .f32⟩ : BufTy).Contents (Elt F)),
    unary main_v28 main_v29 ((extractStridedSlice S16x1 ![0, 0] · slices_S16x2_S16x1_0_0) : (⟨S16x2, .f32⟩ : BufTy).Contents (Elt F) → (⟨S16x1, .f32⟩ : BufTy).Contents (Elt F)),
    unary main_v28 main_v30 ((extractStridedSlice S16x1 ![0, 1] · slices_S16x2_S16x1_0_1) : (⟨S16x2, .f32⟩ : BufTy).Contents (Elt F) → (⟨S16x1, .f32⟩ : BufTy).Contents (Elt F)),
    binary main_v29 main_v30 main_v31 (mulf : (⟨S16x1, .f32⟩ : BufTy).Contents (Elt F) → (⟨S16x1, .f32⟩ : BufTy).Contents (Elt F) → (⟨S16x1, .f32⟩ : BufTy).Contents (Elt F)),
    reshape main_v31 main_v32 (rfl : (.f32 : EltTy) = .f32) shapeCasts_S16x1_S16,
    unary main_v32 main_v33 (Host.log : (⟨S16, .f32⟩ : BufTy).Contents (Elt F) → (⟨S16, .f32⟩ : BufTy).Contents (Elt F)) ]

/-- The operations of the reference that compute the weighted component log densities. -/
abbrev opsComp : List (HloOp τ sig (Elt F)) :=
  [ nullary main_cst_0 (constant S_ .f32 0xBF000000#32),
    unary main_cst_0 main_v34 (broadcastInDim S16x65536 ![] bcast_S_S16x65536 : (⟨S_, .f32⟩ : BufTy).Contents (Elt F) → (⟨S16x65536, .f32⟩ : BufTy).Contents (Elt F)),
    binary main_v34 main_v12 main_v35 (mulf : (⟨S16x65536, .f32⟩ : BufTy).Contents (Elt F) → (⟨S16x65536, .f32⟩ : BufTy).Contents (Elt F) → (⟨S16x65536, .f32⟩ : BufTy).Contents (Elt F)),
    nullary main_cst_1 (constant S_ .f32 0x42EB3F8E#32),
    unary main_cst_1 main_v36 (broadcastInDim S16 ![] bcast_S_S16 : (⟨S_, .f32⟩ : BufTy).Contents (Elt F) → (⟨S16, .f32⟩ : BufTy).Contents (Elt F)),
    binary main_v36 main_v33 main_v37 (addf : (⟨S16, .f32⟩ : BufTy).Contents (Elt F) → (⟨S16, .f32⟩ : BufTy).Contents (Elt F) → (⟨S16, .f32⟩ : BufTy).Contents (Elt F)),
    nullary main_cst_2 (constant S_ .f32 0x3F000000#32),
    unary main_cst_2 main_v38 (broadcastInDim S16 ![] bcast_S_S16 : (⟨S_, .f32⟩ : BufTy).Contents (Elt F) → (⟨S16, .f32⟩ : BufTy).Contents (Elt F)),
    binary main_v38 main_v37 main_v39 (mulf : (⟨S16, .f32⟩ : BufTy).Contents (Elt F) → (⟨S16, .f32⟩ : BufTy).Contents (Elt F) → (⟨S16, .f32⟩ : BufTy).Contents (Elt F)),
    unary main_v39 main_v40 (broadcastInDim S16x1 ![0] bcast_S16_S16x1_0 : (⟨S16, .f32⟩ : BufTy).Contents (Elt F) → (⟨S16x1, .f32⟩ : BufTy).Contents (Elt F)),
    unary main_v40 main_v41 (broadcastInDim S16x65536 ![0, 1] bcast_S16x1_S16x65536_0_1 : (⟨S16x1, .f32⟩ : BufTy).Contents (Elt F) → (⟨S16x65536, .f32⟩ : BufTy).Contents (Elt F)),
    binary main_v35 main_v41 main_v42 (subf : (⟨S16x65536, .f32⟩ : BufTy).Contents (Elt F) → (⟨S16x65536, .f32⟩ : BufTy).Contents (Elt F) → (⟨S16x65536, .f32⟩ : BufTy).Contents (Elt F)),
    unary main_v1 main_v43 (broadcastInDim S16x1 ![0] bcast_S16_S16x1_0 : (⟨S16, .f32⟩ : BufTy).Contents (Elt F) → (⟨S16x1, .f32⟩ : BufTy).Contents (Elt F)),
    unary main_v43 main_v44 (broadcastInDim S16x65536 ![0, 1] bcast_S16x1_S16x65536_0_1 : (⟨S16x1, .f32⟩ : BufTy).Contents (Elt F) → (⟨S16x65536, .f32⟩ : BufTy).Contents (Elt F)),
    binary main_v44 main_v42 main_v45 (addf : (⟨S16x65536, .f32⟩ : BufTy).Contents (Elt F) → (⟨S16x65536, .f32⟩ : BufTy).Contents (Elt F) → (⟨S16x65536, .f32⟩ : BufTy).Contents (Elt F)) ]

/-- The operations of the reference that compute the logarithm of the sum of exponentials. -/
abbrev opsLse : List (HloOp τ sig (Elt F)) :=
  [ nullary main_cst_3 (constant S_ .f32 0xFF800000#32),
    binary main_v45 main_cst_3 main_v46 ((fun x v => Host.reduce FloatOps.maximumf x v reducesTo_S16x65536_S65536_d0 h_S_) : (⟨S16x65536, .f32⟩ : BufTy).Contents (Elt F) → (⟨S_, .f32⟩ : BufTy).Contents (Elt F) → (⟨S65536, .f32⟩ : BufTy).Contents (Elt F)),
    unary main_v46 main_v47 (Host.absf : (⟨S65536, .f32⟩ : BufTy).Contents (Elt F) → (⟨S65536, .f32⟩ : BufTy).Contents (Elt F)),
    nullary main_cst_4 (constant S_ .f32 0x7F800000#32),
    unary main_cst_4 main_v48 (broadcastInDim S65536 ![] bcast_S_S65536 : (⟨S_, .f32⟩ : BufTy).Contents (Elt F) → (⟨S65536, .f32⟩ : BufTy).Contents (Elt F)),
    binary main_v47 main_v48 main_v49 (cmpf .olt : (⟨S65536, .f32⟩ : BufTy).Contents (Elt F) → (⟨S65536, .f32⟩ : BufTy).Contents (Elt F) → (⟨S65536, .i1⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v49) (TRef.of (T := ⟨S65536, .f32⟩) main_v46) (TRef.of (T := ⟨S65536, .f32⟩) main_call0_v1) (TRef.of (T := ⟨S65536, .f32⟩) main_v50) select,
    unary main_v50 main_v51 (broadcastInDim S1x65536 ![1] bcast_S65536_S1x65536_1 : (⟨S65536, .f32⟩ : BufTy).Contents (Elt F) → (⟨S1x65536, .f32⟩ : BufTy).Contents (Elt F)),
    unary main_v51 main_v52 (broadcastInDim S16x65536 ![0, 1] bcast_S1x65536_S16x65536_0_1 : (⟨S1x65536, .f32⟩ : BufTy).Contents (Elt F) → (⟨S16x65536, .f32⟩ : BufTy).Contents (Elt F)),
    binary main_v45 main_v52 main_v53 (subf : (⟨S16x65536, .f32⟩ : BufTy).Contents (Elt F) → (⟨S16x65536, .f32⟩ : BufTy).Contents (Elt F) → (⟨S16x65536, .f32⟩ : BufTy).Contents (Elt F)),
    unary main_v53 main_v54 (Host.exp : (⟨S16x65536, .f32⟩ : BufTy).Contents (Elt F) → (⟨S16x65536, .f32⟩ : BufTy).Contents (Elt F)),
    nullary main_cst_6 (constant S_ .f32 0x00000000#32),
    binary main_v54 main_cst_6 main_v55 ((fun x v => Host.reduceAdd x v reducesTo_S16x65536_S65536_d0 h_S_) : (⟨S16x65536, .f32⟩ : BufTy).Contents (Elt F) → (⟨S_, .f32⟩ : BufTy).Contents (Elt F) → (⟨S65536, .f32⟩ : BufTy).Contents (Elt F)),
    unary main_v55 main_v56 (Host.log : (⟨S65536, .f32⟩ : BufTy).Contents (Elt F) → (⟨S65536, .f32⟩ : BufTy).Contents (Elt F)),
    binary main_v56 main_v50 main_v57 (addf : (⟨S65536, .f32⟩ : BufTy).Contents (Elt F) → (⟨S65536, .f32⟩ : BufTy).Contents (Elt F) → (⟨S65536, .f32⟩ : BufTy).Contents (Elt F)) ]

/-- The reference's operations, in order. -/
abbrev ops : List (HloOp τ sig (Elt F)) := opsQuad ++ (opsDet ++ (opsComp ++ opsLse))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., unary_bufs_sub .., unary_bufs_sub .., unary_bufs_sub .., unary_bufs_sub .., binary_bufs_sub .., binary_bufs_sub .., binary_bufs_sub .., unary_bufs_sub .., unary_bufs_sub .., binary_bufs_sub .., nullary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., nullary_bufs_sub .., binary_bufs_sub .., unary_bufs_sub .., binary_bufs_sub ..⟩

/-- The logarithms of the weights. -/
def refLogw (w : (⟨S16x1, .f32⟩ : BufTy).Contents (Elt F)) : (⟨S16, .f32⟩ : BufTy).Contents (Elt F) :=
  Host.log (shapeCast _ w shapeCasts_S16x1_S16)

/-- The quadratic forms, one for each component and row. -/
def refQuad (x : (⟨S65536x64, .f32⟩ : BufTy).Contents (Elt F)) (mu s : (⟨S16x64, .f32⟩ : BufTy).Contents (Elt F)) : (⟨S16x65536, .f32⟩ : BufTy).Contents (Elt F) :=
  Host.reduceAdd
    (Host.divf
      (mulf
        (subf (broadcastInDim S16x65536x64 ![0, 1, 2] bcast_S1x65536x64_S16x65536x64_0_1_2 (broadcastInDim S1x65536x64 ![1, 2] bcast_S65536x64_S1x65536x64_1_2 x))
          (broadcastInDim S16x65536x64 ![0, 1, 2] bcast_S16x1x64_S16x65536x64_0_1_2 (broadcastInDim S16x1x64 ![0, 2] bcast_S16x64_S16x1x64_0_2 mu)))
        (subf (broadcastInDim S16x65536x64 ![0, 1, 2] bcast_S1x65536x64_S16x65536x64_0_1_2 (broadcastInDim S1x65536x64 ![1, 2] bcast_S65536x64_S1x65536x64_1_2 x))
          (broadcastInDim S16x65536x64 ![0, 1, 2] bcast_S16x1x64_S16x65536x64_0_1_2 (broadcastInDim S16x1x64 ![0, 2] bcast_S16x64_S16x1x64_0_2 mu))))
      (broadcastInDim S16x65536x64 ![0, 1, 2] bcast_S16x1x64_S16x65536x64_0_1_2 (broadcastInDim S16x1x64 ![0, 2] bcast_S16x64_S16x1x64_0_2 (mulf s s))))
    (constant S_ .f32 0x00000000#32) reducesTo_S16x65536x64_S16x65536_d2 h_S_

/-- The squared deviations. -/
def sq (s : (⟨S16x64, .f32⟩ : BufTy).Contents (Elt F)) : (⟨S16x64, .f32⟩ : BufTy).Contents (Elt F) := mulf s s

/-- The products of 2 squared deviations each, 32 per component. -/
def prod32 (s : (⟨S16x64, .f32⟩ : BufTy).Contents (Elt F)) : (⟨S16x32, .f32⟩ : BufTy).Contents (Elt F) :=
  mulf (extractStridedSlice S16x32 ![0, 0] (sq s) slices_S16x64_S16x32_0_0) (extractStridedSlice S16x32 ![0, 32] (sq s) slices_S16x64_S16x32_0_32)

/-- The products of 4 squared deviations each, 16 per component. -/
def prod16 (s : (⟨S16x64, .f32⟩ : BufTy).Contents (Elt F)) : (⟨S16x16, .f32⟩ : BufTy).Contents (Elt F) :=
  mulf (extractStridedSlice S16x16 ![0, 0] (prod32 s) slices_S16x32_S16x16_0_0) (extractStridedSlice S16x16 ![0, 16] (prod32 s) slices_S16x32_S16x16_0_16)

/-- The products of 8 squared deviations each, 8 per component. -/
def prod8 (s : (⟨S16x64, .f32⟩ : BufTy).Contents (Elt F)) : (⟨S16x8, .f32⟩ : BufTy).Contents (Elt F) :=
  mulf (extractStridedSlice S16x8 ![0, 0] (prod16 s) slices_S16x16_S16x8_0_0) (extractStridedSlice S16x8 ![0, 8] (prod16 s) slices_S16x16_S16x8_0_8)

/-- The products of 16 squared deviations each, 4 per component. -/
def prod4 (s : (⟨S16x64, .f32⟩ : BufTy).Contents (Elt F)) : (⟨S16x4, .f32⟩ : BufTy).Contents (Elt F) :=
  mulf (extractStridedSlice S16x4 ![0, 0] (prod8 s) slices_S16x8_S16x4_0_0) (extractStridedSlice S16x4 ![0, 4] (prod8 s) slices_S16x8_S16x4_0_4)

/-- The products of 32 squared deviations each, 2 per component. -/
def prod2 (s : (⟨S16x64, .f32⟩ : BufTy).Contents (Elt F)) : (⟨S16x2, .f32⟩ : BufTy).Contents (Elt F) :=
  mulf (extractStridedSlice S16x2 ![0, 0] (prod4 s) slices_S16x4_S16x2_0_0) (extractStridedSlice S16x2 ![0, 2] (prod4 s) slices_S16x4_S16x2_0_2)

/-- The products of 64 squared deviations each, 1 per component. -/
def prod1 (s : (⟨S16x64, .f32⟩ : BufTy).Contents (Elt F)) : (⟨S16x1, .f32⟩ : BufTy).Contents (Elt F) :=
  mulf (extractStridedSlice S16x1 ![0, 0] (prod2 s) slices_S16x2_S16x1_0_0) (extractStridedSlice S16x1 ![0, 1] (prod2 s) slices_S16x2_S16x1_0_1)

/-- The logarithm of the product of each component's squared deviations. -/
def refLogdet (s : (⟨S16x64, .f32⟩ : BufTy).Contents (Elt F)) : (⟨S16, .f32⟩ : BufTy).Contents (Elt F) :=
  Host.log (shapeCast _ (prod1 s) shapeCasts_S16x1_S16)

/-- The weighted component log densities, from the logarithms of the weights, the quadratic forms and the log determinants. -/
def refComp (lw : (⟨S16, .f32⟩ : BufTy).Contents (Elt F)) (q : (⟨S16x65536, .f32⟩ : BufTy).Contents (Elt F)) (ld : (⟨S16, .f32⟩ : BufTy).Contents (Elt F)) : (⟨S16x65536, .f32⟩ : BufTy).Contents (Elt F) :=
  addf (broadcastInDim S16x65536 ![0, 1] bcast_S16x1_S16x65536_0_1 (broadcastInDim S16x1 ![0] bcast_S16_S16x1_0 lw))
    (subf (mulf (broadcastInDim S16x65536 ![] bcast_S_S16x65536 (constant S_ .f32 0xBF000000#32)) q)
      (broadcastInDim S16x65536 ![0, 1] bcast_S16x1_S16x65536_0_1 (broadcastInDim S16x1 ![0] bcast_S16_S16x1_0
        (mulf (broadcastInDim S16 ![] bcast_S_S16 (constant S_ .f32 0x3F000000#32))
          (addf (broadcastInDim S16 ![] bcast_S_S16 (constant S_ .f32 0x42EB3F8E#32)) ld)))))

/-- The maximum over the components. -/
def refMax (a : (⟨S16x65536, .f32⟩ : BufTy).Contents (Elt F)) : (⟨S65536, .f32⟩ : BufTy).Contents (Elt F) :=
  Host.reduce FloatOps.maximumf a (constant S_ .f32 0xFF800000#32) reducesTo_S16x65536_S65536_d0 h_S_

/-- The maximum, zero where it is not finite. -/
def refShift (a : (⟨S16x65536, .f32⟩ : BufTy).Contents (Elt F)) : (⟨S65536, .f32⟩ : BufTy).Contents (Elt F) :=
  select (cmpf .olt (Host.absf (refMax a)) (broadcastInDim S65536 ![] bcast_S_S65536 (constant S_ .f32 0x7F800000#32))) (refMax a)
    (broadcastInDim S65536 ![] bcast_S_S65536 (id (constant S_ .f32 0x00000000#32)))

/-- The logarithm of the sum of exponentials over the components. -/
def refLse (a : (⟨S16x65536, .f32⟩ : BufTy).Contents (Elt F)) : (⟨S65536, .f32⟩ : BufTy).Contents (Elt F) :=
  addf
    (Host.log (Host.reduceAdd
      (Host.exp (subf a (broadcastInDim S16x65536 ![0, 1] bcast_S1x65536_S16x65536_0_1 (broadcastInDim S1x65536 ![1] bcast_S65536_S1x65536_1 (refShift a)))))
      (constant S_ .f32 0x00000000#32) reducesTo_S16x65536_S65536_d0 h_S_))
    (refShift a)

theorem after_append (l₁ l₂ : List (HloOp τ sig (Elt F))) (V : Valuation τ sig (Elt F)) : after (l₁ ++ l₂) V = after l₂ (after l₁ V) := by
  induction l₁ generalizing V with
  | nil => rfl
  | cons op l ih => exact ih _

section Stretches

variable (V : Valuation τ sig (Elt F))

set_option maxRecDepth 8192
set_option maxHeartbeats 4000000

theorem quad_logw : after opsQuad V (Proc.devRef .tc main_v1) = refLogw (V (Proc.devRef .tc main_arg1)) := by
  after_results_simp <;> rfl
theorem quad_quad : after opsQuad V (Proc.devRef .tc main_v12)
    = refQuad (V (Proc.devRef .tc main_arg0)) (V (Proc.devRef .tc main_arg2)) (V (Proc.devRef .tc main_arg3)) := by
  after_results_simp <;> rfl
theorem quad_arg3 : after opsQuad V (Proc.devRef .tc main_arg3) = V (Proc.devRef .tc main_arg3) := by
  after_results_simp <;> rfl
theorem det_logdet : after opsDet V (Proc.devRef .tc main_v33) = refLogdet (V (Proc.devRef .tc main_arg3)) := by
  after_results_simp <;> rfl
theorem det_logw : after opsDet V (Proc.devRef .tc main_v1) = V (Proc.devRef .tc main_v1) := by
  after_results_simp <;> rfl
theorem det_quad : after opsDet V (Proc.devRef .tc main_v12) = V (Proc.devRef .tc main_v12) := by
  after_results_simp <;> rfl
theorem comp_comp : after opsComp V (Proc.devRef .tc main_v45)
    = refComp (V (Proc.devRef .tc main_v1)) (V (Proc.devRef .tc main_v12)) (V (Proc.devRef .tc main_v33)) := by
  after_results_simp <;> rfl
theorem lse_lse : after opsLse V (Proc.devRef .tc main_v57) = refLse (V (Proc.devRef .tc main_v45)) := by
  simp only [opsLse, TRef.ternary, TRef.unary, TRef.toBuf, TRef.ofBuf, cast_eq]; after_results_simp <;> rfl

/-- The reference's result as a function of its arguments. -/
def refOut (x : (⟨S65536x64, .f32⟩ : BufTy).Contents (Elt F)) (w : (⟨S16x1, .f32⟩ : BufTy).Contents (Elt F)) (mu s : (⟨S16x64, .f32⟩ : BufTy).Contents (Elt F)) : (⟨S65536, .f32⟩ : BufTy).Contents (Elt F) :=
  refLse (refComp (refLogw w) (refQuad x mu s) (refLogdet s))

theorem ops_out : after ops V (Proc.devRef .tc main_v57)
    = refOut (V (Proc.devRef .tc main_arg0)) (V (Proc.devRef .tc main_arg1)) (V (Proc.devRef .tc main_arg2)) (V (Proc.devRef .tc main_arg3)) := by
  rw [ops, after_append, after_append, after_append, lse_lse, comp_comp, det_logdet, det_logw, det_quad, quad_logw, quad_quad, quad_arg3, refOut]

theorem ops_arg0 : after ops V (Proc.devRef .tc main_arg0) = V (Proc.devRef .tc main_arg0) := by
  simp only [ops, List.cons_append, List.nil_append, TRef.ternary, TRef.unary, TRef.toBuf, TRef.ofBuf, cast_eq]; after_results_simp <;> rfl
theorem ops_arg1 : after ops V (Proc.devRef .tc main_arg1) = V (Proc.devRef .tc main_arg1) := by
  simp only [ops, List.cons_append, List.nil_append, TRef.ternary, TRef.unary, TRef.toBuf, TRef.ofBuf, cast_eq]; after_results_simp <;> rfl
theorem ops_arg2 : after ops V (Proc.devRef .tc main_arg2) = V (Proc.devRef .tc main_arg2) := by
  simp only [ops, List.cons_append, List.nil_append, TRef.ternary, TRef.unary, TRef.toBuf, TRef.ofBuf, cast_eq]; after_results_simp <;> rfl
theorem ops_arg3 : after ops V (Proc.devRef .tc main_arg3) = V (Proc.devRef .tc main_arg3) := by
  simp only [ops, List.cons_append, List.nil_append, TRef.ternary, TRef.unary, TRef.toBuf, TRef.ofBuf, cast_eq]; after_results_simp <;> rfl

end Stretches

/-- Every execution of the reference ends with its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v57).trans (ops_out _), (h c main_arg0).trans (ops_arg0 _), (h c main_arg1).trans (ops_arg1 _),
      (h c main_arg2).trans (ops_arg2 _), (h c main_arg3).trans (ops_arg3 _)⟩)
    (run_seq scopedRefs_eq scopedSems_eq defs main (fun _ => ops) main_eq (fun _ => ops_sub) m ρ)

end Cert.RefRun

end
-- ==== Proof.Sums.lean ====
/-
  Finite sums of extended reals, and the logarithm of a product.
-/
module

public import Idealize.ShloMosaic.Lib.IdealHost

@[expose] public section

namespace Cert.Sums

open Idealize.ShloMosaic
open scoped BigOperators

variable {ι : Type} (t : Finset ι) (f : ι → EReal)

/-- A sum with no term `⊥` is not `⊥`. -/
theorem sum_ne_bot (h : ∀ i ∈ t, f i ≠ ⊥) : ∑ i ∈ t, f i ≠ ⊥ := by
  classical
  induction t using Finset.induction_on with
  | empty => simp
  | insert a u ha ih =>
    rw [Finset.sum_insert ha]
    intro hb
    rcases EReal.add_eq_bot_iff.mp hb with h1 | h1
    · exact h a (Finset.mem_insert_self _ _) h1
    · exact ih (fun i hi => h i (Finset.mem_insert_of_mem hi)) h1

/-- A sum with a term `⊥` is `⊥`. -/
theorem sum_eq_bot {i : ι} (hi : i ∈ t) (h : f i = ⊥) : ∑ i ∈ t, f i = ⊥ := by
  classical
  rw [← Finset.add_sum_erase t f hi, h, EReal.bot_add]

/-- A sum with a term `⊤` and no term `⊥` is `⊤`. -/
theorem sum_eq_top {i : ι} (hi : i ∈ t) (h : f i = ⊤) (hb : ∀ i ∈ t, f i ≠ ⊥) : ∑ i ∈ t, f i = ⊤ := by
  classical
  rw [← Finset.add_sum_erase t f hi, h]
  exact EReal.top_add_of_ne_bot (sum_ne_bot _ f fun j hj => hb j (Finset.mem_of_mem_erase hj))

/-- A sum of reals, as an extended real. -/
theorem coe_sum (g : ι → ℝ) : ((∑ i ∈ t, g i : ℝ) : EReal) = ∑ i ∈ t, (g i : EReal) := by
  classical
  induction t using Finset.induction_on with
  | empty => simp
  | insert a u ha ih => rw [Finset.sum_insert ha, Finset.sum_insert ha, EReal.coe_add, ih]

/-- The logarithm of a positive real. -/
theorem log_pos {r : ℝ} (h : 0 < r) : Ideal.log (r : EReal) = (Real.log r : EReal) := by
  rw [Ideal.log_coe, if_neg (not_le.mpr h)]

/-- The logarithm of a product of two positive numbers is the sum of their logarithms. -/
theorem log_mul {a b : EReal} (ha : 0 < a) (hb : 0 < b) : Ideal.log (a * b) = Ideal.log a + Ideal.log b := by
  induction a with
  | bot => exact absurd ha (by simp)
  | top =>
    rw [EReal.top_mul_of_pos hb, Ideal.log_top]
    symm
    apply EReal.top_add_of_ne_bot
    induction b with
    | bot => exact absurd hb (by simp)
    | top => simp
    | coe b => rw [log_pos (EReal.coe_pos.mp hb)]; exact EReal.coe_ne_bot _
  | coe a =>
    have ha' := EReal.coe_pos.mp ha
    induction b with
    | bot => exact absurd hb (by simp)
    | top => rw [EReal.mul_top_of_pos ha, Ideal.log_top, log_pos ha', EReal.coe_add_top]
    | coe b =>
      have hb' := EReal.coe_pos.mp hb
      rw [← EReal.coe_mul, log_pos ha', log_pos hb', log_pos (mul_pos ha' hb'), Real.log_mul ha'.ne' hb'.ne', EReal.coe_add]

/-- A product of positive numbers is positive, and its logarithm is the sum of their logarithms. -/
theorem log_prod (h : ∀ i ∈ t, 0 < f i) : 0 < ∏ i ∈ t, f i ∧ Ideal.log (∏ i ∈ t, f i) = ∑ i ∈ t, Ideal.log (f i) := by
  classical
  induction t using Finset.induction_on with
  | empty =>
    refine ⟨by simp, ?_⟩
    rw [Finset.prod_empty, Finset.sum_empty, ← EReal.coe_one, log_pos one_pos, Real.log_one, EReal.coe_zero]
  | insert a u ha ih =>
    obtain ⟨h1, h2⟩ := ih fun i hi => h i (Finset.mem_insert_of_mem hi)
    have h0 := h a (Finset.mem_insert_self _ _)
    rw [Finset.prod_insert ha, Finset.sum_insert ha]
    exact ⟨EReal.mul_pos h0 h1, by rw [log_mul h0 h1, h2]⟩

/-- A maximum from `⊥` is at least every element. -/
theorem le_fold_max {i : ι} (hi : i ∈ t) : f i ≤ t.fold max ⊥ f :=
  Finset.le_fold_max _ |>.mpr (Or.inr ⟨i, hi, le_rfl⟩)

/-- A maximum from `⊥` of numbers other than `⊤` is not `⊤`. -/
theorem fold_max_ne_top (h : ∀ i ∈ t, f i ≠ ⊤) : t.fold max ⊥ f ≠ ⊤ :=
  ((Finset.fold_max_lt _).mpr ⟨bot_lt_top, fun i hi => lt_top_iff_ne_top.mpr (h i hi)⟩).ne

end Cert.Sums
-- ==== Proof.Component.lean ====
/-
  One component's log density at one row: the kernel's expanded form and the reference's form are the same extended real
  when no deviation is zero and the logarithm of the weight is not `⊤`.
-/
module

public import proofs.«01_k».proof.Proof.Sums

@[expose] public section

namespace Cert.Component

open Idealize.ShloMosaic Cert.Sums
open scoped BigOperators

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

/-- The additive constant is a real number. -/
theorem bits_const : Ideal.ofBits .f32 0x42EB3F8E#32 = ((7708615 / 65536 : ℝ) : EReal) := by
  simp [Ideal.ofBits, Ideal.ieee, -EReal.coe_mul]; norm_num

theorem bits_neg_inf : Ideal.ofBits .f32 0xFF800000#32 = ⊥ := by
  simp [Ideal.ofBits, Ideal.ieee]

theorem bits_inf : Ideal.ofBits .f32 0x7F800000#32 = ⊤ := by
  simp [Ideal.ofBits, Ideal.ieee]

/-! ## Squares and quotients -/

theorem sq_nonneg (a : EReal) : 0 ≤ a * a := by
  induction a with
  | bot => simp
  | top => simp
  | coe r => rw [← EReal.coe_mul]; exact EReal.coe_nonneg.mpr (mul_self_nonneg r)

theorem sq_pos {a : EReal} (h : a ≠ 0) : 0 < a * a := by
  induction a with
  | bot => simp
  | top => simp
  | coe r =>
    have hr : r ≠ 0 := fun e => h (by rw [e, EReal.coe_zero])
    rw [← EReal.coe_mul]; exact EReal.coe_pos.mpr (mul_self_pos.mpr hr)

theorem div_nonneg {a b : EReal} (ha : 0 ≤ a) (hb : 0 < b) : 0 ≤ Ideal.div a b := by
  unfold Ideal.div
  rw [if_neg hb.ne']
  exact mul_nonneg ha (EReal.inv_nonneg_of_nonneg hb.le)

theorem div_real (a : EReal) {r : ℝ} (h : r ≠ 0) : Ideal.div a (r : EReal) = a * ((1 / r : ℝ) : EReal) := Ideal.div_coe h a

theorem ne_bot_of_nonneg {a : EReal} (h : 0 ≤ a) : a ≠ ⊥ := (lt_of_lt_of_le EReal.bot_lt_zero h).ne'

/-- A number other than `⊥` and `⊤` is real. -/
theorem real_of {a : EReal} (h : ¬ (a = ⊤ ∨ a = ⊥)) : ∃ r : ℝ, a = (r : EReal) :=
  ⟨a.toReal, (EReal.coe_toReal (fun e => h (Or.inl e)) (fun e => h (Or.inr e))).symm⟩

theorem sq_inf {a : EReal} (h : a = ⊤ ∨ a = ⊥) : a * a = ⊤ := by
  rcases h with rfl | rfl <;> simp

/-- A difference with an infinite side is infinite. -/
theorem sub_inf {a b : EReal} (h : (a = ⊤ ∨ a = ⊥) ∨ (b = ⊤ ∨ b = ⊥)) : a - b = ⊤ ∨ a - b = ⊥ := by
  induction a with
  | bot => exact Or.inr (by rw [sub_eq_add_neg, EReal.bot_add])
  | top =>
    induction b with
    | bot => simp
    | top => exact Or.inr (by rw [sub_eq_add_neg, EReal.neg_top, EReal.add_bot])
    | coe b => exact Or.inl (EReal.top_sub_coe b)
  | coe a =>
    induction b with
    | bot => exact Or.inl (EReal.coe_sub_bot a)
    | top => exact Or.inr (by rw [sub_eq_add_neg, EReal.neg_top, EReal.add_bot])
    | coe b =>
      rcases h with (h | h) | (h | h)
      · exact absurd h (EReal.coe_ne_top _)
      · exact absurd h (EReal.coe_ne_bot _)
      · exact absurd h (EReal.coe_ne_top _)
      · exact absurd h (EReal.coe_ne_bot _)

theorem sub_top' (a : EReal) : a - ⊤ = ⊥ := by rw [sub_eq_add_neg, EReal.neg_top, EReal.add_bot]

section Terms

variable (x mu s : Fin 64 → EReal) (lw : EReal) (c : ℝ)

/-- The kernel's form of a component. -/
noncomputable def ker : EReal :=
  ∑ d, ((-(1 / 2) : ℝ) : EReal) * Ideal.div 1 (s d * s d) * (x d * x d) + ∑ d, mu d * Ideal.div 1 (s d * s d) * x d
    + (lw - ((1 / 2 : ℝ) : EReal) * ((c : EReal) + ∑ d, Ideal.log (s d * s d) + ∑ d, mu d * mu d * Ideal.div 1 (s d * s d)))

/-- The reference's form of a component. -/
noncomputable def ref : EReal :=
  lw + (((-(1 / 2) : ℝ) : EReal) * ∑ d, Ideal.div ((x d - mu d) * (x d - mu d)) (s d * s d)
    - ((1 / 2 : ℝ) : EReal) * ((c : EReal) + Ideal.log (∏ d, s d * s d)))

variable (hs : ∀ d, s d ≠ 0) (hlw : lw ≠ ⊤)

include hs

theorem log_ne_bot (d : Fin 64) : Ideal.log (s d * s d) ≠ ⊥ := by
  have h := sq_pos (hs d)
  generalize s d * s d = v at h
  induction v with
  | bot => exact absurd h (by simp)
  | top => simp
  | coe r => rw [log_pos (EReal.coe_pos.mp h)]; exact EReal.coe_ne_bot _

theorem log_prod_sq : Ideal.log (∏ d, s d * s d) = ∑ d, Ideal.log (s d * s d) :=
  (log_prod Finset.univ (fun d => s d * s d) fun d _ => sq_pos (hs d)).2

theorem quad_nonneg (d : Fin 64) : 0 ≤ Ideal.div ((x d - mu d) * (x d - mu d)) (s d * s d) := div_nonneg (sq_nonneg _) (sq_pos (hs d))

theorem mean_nonneg (d : Fin 64) : 0 ≤ mu d * mu d * Ideal.div 1 (s d * s d) := mul_nonneg (sq_nonneg _) (div_nonneg zero_le_one (sq_pos (hs d)))

/-- Where the sum in the constant term is `⊤`, the kernel's form is `⊥`. -/
theorem ker_of_top (h : (c : EReal) + ∑ d, Ideal.log (s d * s d) + ∑ d, mu d * mu d * Ideal.div 1 (s d * s d) = ⊤) : ker x mu s lw c = ⊥ := by
  unfold ker
  rw [h, EReal.coe_mul_top_of_pos (by norm_num), sub_top', EReal.add_bot]

/-- Where some deviation is infinite, both forms are `⊥`. -/
theorem eq_of_sigma_inf {d : Fin 64} (h : s d = ⊤ ∨ s d = ⊥) : ker x mu s lw c = ref x mu s lw c := by
  have hL : ∑ d, Ideal.log (s d * s d) = ⊤ :=
    sum_eq_top _ _ (Finset.mem_univ d) (by rw [sq_inf h, Ideal.log_top]) fun i _ => log_ne_bot s hs i
  have hM := sum_ne_bot Finset.univ (fun d => mu d * mu d * Ideal.div 1 (s d * s d)) fun i _ => ne_bot_of_nonneg (mean_nonneg mu s hs i)
  rw [ker_of_top x mu s lw c hs (by rw [hL, EReal.coe_add_top, EReal.top_add_of_ne_bot hM])]
  unfold ref
  rw [log_prod_sq s hs, hL, EReal.coe_add_top, EReal.coe_mul_top_of_pos (by norm_num), sub_top', EReal.add_bot]

omit hs in
/-- The reciprocal of a real square is a positive real. -/
theorem inv_sq_real {σ : ℝ} (h : σ ≠ 0) (a : EReal) : Ideal.div a ((σ : EReal) * (σ : EReal)) = a * ((1 / (σ * σ) : ℝ) : EReal) := by
  rw [← EReal.coe_mul, div_real a (mul_ne_zero h h)]

/-- Where every deviation is real and some row entry or mean is infinite, both forms are `⊥`. -/
theorem eq_of_point_inf {d : Fin 64} (σ : Fin 64 → ℝ) (hσ : ∀ d, s d = (σ d : EReal)) (h : (x d = ⊤ ∨ x d = ⊥) ∨ (mu d = ⊤ ∨ mu d = ⊥)) :
    ker x mu s lw c = ref x mu s lw c := by
  have hσ0 (d) : σ d ≠ 0 := fun e => hs d (by rw [hσ, e, EReal.coe_zero])
  have hinv (d) : (0 : ℝ) < 1 / (σ d * σ d) := one_div_pos.mpr (mul_self_pos.mpr (hσ0 d))
  have hr : ref x mu s lw c = ⊥ := by
    unfold ref
    rw [sum_eq_top Finset.univ _ (Finset.mem_univ d) (by rw [sq_inf (sub_inf h), hσ, inv_sq_real (hσ0 d), EReal.top_mul_coe_of_pos (hinv d)])
      fun i _ => ne_bot_of_nonneg (quad_nonneg x mu s hs i), EReal.coe_mul_top_of_neg (by norm_num), sub_eq_add_neg, EReal.bot_add, EReal.add_bot]
  rw [hr]
  rcases h with h | h
  · unfold ker
    rw [sum_eq_bot Finset.univ _ (Finset.mem_univ d), EReal.bot_add, EReal.bot_add]
    rw [sq_inf h, hσ, inv_sq_real (hσ0 d), one_mul, ← EReal.coe_mul, EReal.coe_mul_top_of_neg]
    exact mul_neg_of_neg_of_pos (by norm_num) (hinv d)
  · apply ker_of_top x mu s lw c hs
    rw [sum_eq_top Finset.univ (fun d => mu d * mu d * Ideal.div 1 (s d * s d)) (Finset.mem_univ d)
      (by rw [sq_inf h, hσ, inv_sq_real (hσ0 d), one_mul, EReal.top_mul_coe_of_pos (hinv d)]) fun i _ => ne_bot_of_nonneg (mean_nonneg mu s hs i)]
    apply EReal.add_top_of_ne_bot
    intro hb
    rcases EReal.add_eq_bot_iff.mp hb with h1 | h1
    · exact EReal.coe_ne_bot _ h1
    · exact sum_ne_bot Finset.univ (fun d => Ideal.log (s d * s d)) (fun i _ => log_ne_bot s hs i) h1

omit hs in
/-- The identity over the reals. -/
theorem real_identity (X M σ : Fin 64 → ℝ) (L : ℝ) :
    ∑ d, -(1 / 2) * (1 / (σ d * σ d)) * (X d * X d) + ∑ d, M d * (1 / (σ d * σ d)) * X d
        - 1 / 2 * (c + L + ∑ d, M d * M d * (1 / (σ d * σ d)))
      = -(1 / 2) * ∑ d, (X d - M d) * (X d - M d) * (1 / (σ d * σ d)) - 1 / 2 * (c + L) := by
  have h : ∑ d, (X d - M d) * (X d - M d) * (1 / (σ d * σ d))
      = -2 * (∑ d, -(1 / 2) * (1 / (σ d * σ d)) * (X d * X d)) - 2 * (∑ d, M d * (1 / (σ d * σ d)) * X d) + ∑ d, M d * M d * (1 / (σ d * σ d)) := by
    rw [Finset.mul_sum, Finset.mul_sum, ← Finset.sum_sub_distrib, ← Finset.sum_add_distrib]
    exact Finset.sum_congr rfl fun d _ => by ring
  rw [h]; ring

omit hs in
/-- A real may be moved past a subtraction from `lw`. -/
theorem move (P R : ℝ) : (P : EReal) + (lw - (R : EReal)) = lw + ((P - R : ℝ) : EReal) := by
  induction lw with
  | bot => rw [sub_eq_add_neg, EReal.bot_add, EReal.add_bot, EReal.bot_add]
  | top => rw [EReal.top_sub_coe, EReal.coe_add_top, EReal.top_add_coe]
  | coe l => rw [← EReal.coe_sub, ← EReal.coe_add, ← EReal.coe_add]; congr 1; ring

/-- Where everything is real, the two forms agree by the identity over the reals. -/
theorem eq_of_real (X M σ : Fin 64 → ℝ) (hX : ∀ d, x d = (X d : EReal)) (hM : ∀ d, mu d = (M d : EReal)) (hσ : ∀ d, s d = (σ d : EReal)) :
    ker x mu s lw c = ref x mu s lw c := by
  have hσ0 (d) : σ d ≠ 0 := fun e => hs d (by rw [hσ, e, EReal.coe_zero])
  have hl (d) : Ideal.log (s d * s d) = ((Real.log (σ d * σ d) : ℝ) : EReal) := by
    rw [hσ, ← EReal.coe_mul, log_pos (mul_self_pos.mpr (hσ0 d))]
  unfold ker ref
  rw [log_prod_sq s hs]
  simp only [hl]
  simp only [hX, hM, hσ, inv_sq_real (hσ0 _), one_mul]
  simp only [← EReal.coe_mul, ← EReal.coe_sub, ← coe_sum, ← EReal.coe_add]
  rw [move, real_identity]

/-- The two forms of a component agree. -/
theorem ker_eq_ref : ker x mu s lw c = ref x mu s lw c := by
  by_cases h1 : ∃ d, s d = ⊤ ∨ s d = ⊥
  · obtain ⟨d, h⟩ := h1; exact eq_of_sigma_inf x mu s lw c hs h
  choose σ hσ using fun d => real_of fun e => h1 ⟨d, e⟩
  by_cases h2 : ∃ d, (x d = ⊤ ∨ x d = ⊥) ∨ (mu d = ⊤ ∨ mu d = ⊥)
  · obtain ⟨d, h⟩ := h2; exact eq_of_point_inf x mu s lw c hs σ hσ h
  choose X hX using fun d => real_of fun e => h2 ⟨d, Or.inl e⟩
  choose M hM using fun d => real_of fun e => h2 ⟨d, Or.inr e⟩
  exact eq_of_real x mu s lw c hs X M σ hX hM hσ

include hlw

/-- A component is not `⊤`. -/
theorem ref_ne_top : ref x mu s lw c ≠ ⊤ := by
  have hQ : 0 ≤ ∑ d, Ideal.div ((x d - mu d) * (x d - mu d)) (s d * s d) := Finset.sum_nonneg fun d _ => quad_nonneg x mu s hs d
  have hL := sum_ne_bot Finset.univ (fun d => Ideal.log (s d * s d)) fun i _ => log_ne_bot s hs i
  unfold ref
  rw [log_prod_sq s hs]
  generalize (∑ d, Ideal.div ((x d - mu d) * (x d - mu d)) (s d * s d)) = Q at hQ
  generalize (∑ d, Ideal.log (s d * s d)) = L at hL
  refine EReal.add_ne_top hlw ?_
  rw [sub_eq_add_neg]
  refine EReal.add_ne_top ?_ ?_
  · induction Q with
    | bot => exact absurd hQ (by simp)
    | top => rw [EReal.coe_mul_top_of_neg (by norm_num)]; simp
    | coe q => rw [← EReal.coe_mul]; exact EReal.coe_ne_top _
  · induction L with
    | bot => exact absurd rfl hL
    | top => rw [EReal.coe_add_top, EReal.coe_mul_top_of_pos (by norm_num), EReal.neg_top]; simp
    | coe l => rw [← EReal.coe_add, ← EReal.coe_mul, ← EReal.coe_neg]; exact EReal.coe_ne_top _

end Terms

/-- The logarithm of a number other than `⊤` is not `⊤`. -/
theorem log_ne_top {w : EReal} (h : w ≠ ⊤) : Ideal.log w ≠ ⊤ := by
  induction w with
  | bot => simp
  | top => exact absurd rfl h
  | coe r =>
    rw [Ideal.log_coe]
    split
    · simp
    · exact EReal.coe_ne_top _

/-! ## The logarithm of the sum of exponentials -/

/-- The kernel's shift by the maximum and the reference's shift by the maximum where it is finite give the same logarithm of the
    sum of exponentials, for components other than `⊤`. -/
theorem lse_eq (a : Fin 16 → EReal) (ha : ∀ k, a k ≠ ⊤) (M M' : EReal) (hM : M = Finset.univ.fold max ⊥ a)
    (hM' : M' = if max M (-M) < ⊤ then M else 0) :
    M + Ideal.log (∑ k, Ideal.exp (a k - M)) = Ideal.log (∑ k, Ideal.exp (a k - M')) + M' := by
  have ht : M ≠ ⊤ := hM ▸ fold_max_ne_top Finset.univ a fun k _ => ha k
  have hle (k) : a k ≤ M := hM ▸ le_fold_max Finset.univ a (Finset.mem_univ k)
  clear hM
  induction M with
  | bot =>
    have hb (k) : a k = ⊥ := le_bot_iff.mp (hle k)
    have h0 : M' = 0 := by rw [hM', if_neg (by simp)]
    have he : Ideal.exp (⊥ - 0) = 0 := by rw [sub_eq_add_neg, EReal.bot_add]; rfl
    have hz : Ideal.log 0 = ⊥ := by rw [← EReal.coe_zero, Ideal.log_coe, if_pos le_rfl]
    rw [h0, EReal.bot_add]
    simp only [hb, he, Finset.sum_const_zero, hz, EReal.bot_add]
  | top => exact absurd rfl ht
  | coe r =>
    have h1 : M' = (r : EReal) := by
      rw [hM', if_pos (max_lt (EReal.coe_lt_top r) (by rw [← EReal.coe_neg]; exact EReal.coe_lt_top _))]
    rw [h1, add_comm]

end Cert.Component
-- ==== Proof.Pre.lean ====
/-
  The precondition read: no deviation is zero, and no weight is `⊤`.
-/
module

public import proofs.«01_k».proof.Defs
public import proofs.«01_k».proof.Proof.Component
public import Idealize.ShloMosaic.Lib.ReduceAll
public import Idealize.ShloMosaic.Lib.Pointwise

@[expose] public section

namespace Cert.Pre

open Cert.Pre_in_domain Idealize.ShloMosaic

/-- The side conditions of the precondition's operations. -/
theorem facts : Cert.Pre_in_domain.Facts := ⟨by decide, by decide, by decide, by decide, by decide⟩

instance : Subsingleton S_.Idx := ⟨fun a b => funext fun i => i.elim0⟩

variable [Cert.Pre_in_domain.Facts]

/-- What the precondition says of the deviations and of the weights. -/
theorem of_pre (x : FVec Ideal S65536x64 .f32) (w : FVec Ideal S16x1 .f32) (mu s : FVec Ideal S16x64 .f32)
    (h : fn (F := Ideal) x w mu s = fun _ => 1#1) :
    (∀ k d, (s (ix2 k d) : EReal) ≠ 0) ∧ ∀ k, (w (ix2 k 0) : EReal) ≠ ⊤ := by
  have andi_both (a b : BitVec 1) : IntOp.andi a b = 1#1 → a = 1#1 ∧ b = 1#1 := by revert a b; decide
  have ofBool_true (b : Bool) : BitVec.ofBool b = 1#1 → b = true := by revert b; decide
  obtain ⟨h1, h2⟩ := andi_both _ _ (congrFun h fun i => i.elim0)
  constructor
  · intro k d
    have e := Host.reduce_andi_all _ _ _ _ _ h1 (ix2 k d)
    have e' := of_decide_eq_true (ofBool_true _ e)
    intro hz
    apply e'
    refine hz.trans ?_
    exact Ideal.ofBits_zero_f32.symm
  · intro k
    have e := Host.reduce_andi_all _ _ _ _ _ h2 (ix2 k 0)
    have e' := of_decide_eq_true (ofBool_true _ e)
    exact (lt_of_lt_of_eq e' Component.bits_inf).ne

end Cert.Pre
-- ==== Proof.KerRun.lean ====
/-
  What the kernel leaves in its result array: the scratch arrays, filled at the first grid point, are the same at every later point,
  so that each block of the result is the body's output term of the block of rows and of three arrays that depend on the
  parameters alone.
-/
module

public import proofs.«01_k».proof.Proof.Gen.KernelIdeal.Value
public import Idealize.ShloMosaic.Lib.Pipeline.ValueKit

@[expose] public section

noncomputable section

namespace Cert.KerRun

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

theorem points : cfg0.N = 4 := N_0

/-- The first grid point. -/
abbrev t0 : Fin cfg0.N := ⟨0, by rw [points]; decide⟩

/-- After every point, the output block is the body's term of the point's rows and of the scratch arrays filled at the first point. -/
theorem outs (c : Dev nD) (n : ℕ) (hn : n < cfg0.N) :
    outsAt0 m c n hn =
      (k0_pay2 (iblk m c 0 ⟨n, hn⟩) (k0_pay4 (iblk m c 3 t0)) (k0_pay5 (iblk m c 3 t0) (iblk m c 2 t0))
          (k0_pay1 (k0_pay6 (iblk m c 3 t0) (iblk m c 1 t0) (iblk m c 2 t0) (iblk m c 2 t0))),
        k0_pay4 (iblk m c 3 t0), k0_pay5 (iblk m c 3 t0) (iblk m c 2 t0),
        k0_pay1 (k0_pay6 (iblk m c 3 t0) (iblk m c 1 t0) (iblk m c 2 t0) (iblk m c 2 t0))) := by
  induction n with
  | zero =>
    rw [outsAt0_A m c ⟨0, hn⟩ rfl]
    refine Prod.ext ?_ (Prod.ext ?_ (Prod.ext ?_ ?_))
    all_goals (frame_out)
  | succ n ih =>
    have h4 : n + 1 < 4 := points ▸ hn
    rw [outsAt0_B m c ⟨n + 1, hn⟩ (by show ¬ (n + 1) % 4 = 0; omega)]
    have ih' := ih (Nat.lt_of_succ_lt hn)
    refine Prod.ext ?_ (Prod.ext ?_ (Prod.ext ?_ ?_))
    · frame_out
      simp only [Nat.add_sub_cancel, ih']
      congr 1 <;> exact Memref.IsWhole.read_unread (Memref.isWhole_whole _) _
    · exact congrArg (fun p => p.2.1) ih'
    · exact congrArg (fun p => p.2.2.1) ih'
    · exact congrArg (fun p => p.2.2.2) ih'

theorem idx_whole1 : win0_1.index t0 = ![0, 0] := by decide +kernel

theorem idx_whole2 : win0_2.index t0 = ![0, 0] := by decide +kernel

theorem idx_whole3 : win0_3.index t0 = ![0, 0] := by decide +kernel

/-- A block that is the whole weight array. -/
theorem blk_w (c : Dev nD) : iblk m c 1 t0 = m ((c : Thread nD τ).loc main_arg1) := by
  funext y
  blk_ext [iblk, V, idx_whole1]

/-- A block that is the whole array of means. -/
theorem blk_mu (c : Dev nD) : iblk m c 2 t0 = m ((c : Thread nD τ).loc main_arg2) := by
  funext y
  blk_ext [iblk, V, idx_whole2]

/-- A block that is the whole array of deviations. -/
theorem blk_sigma (c : Dev nD) : iblk m c 3 t0 = m ((c : Thread nD τ).loc main_arg3) := by
  funext y
  blk_ext [iblk, V, idx_whole3]

theorem idx_rows : ∀ t : Fin cfg0.N, win0_0.index t = ![t.val, 0] :=
  (by decide +kernel : ∀ t : Fin grid0.N, win0_0.index t = ![t.val, 0])

/-- A block of rows, read at an index. -/
theorem blk_x (c : Dev nD) (t : Fin cfg0.N) (n : Fin 16384) (d : Fin 64) (h : t.val * 16384 + n.val < 65536) :
    iblk m c 0 t (ix2 n d) = m ((c : Thread nD τ).loc main_arg0) (ix2 ⟨t.val * 16384 + n.val, h⟩ d) := by
  blk_ext [iblk, V, idx_rows t]

/-- The kernel's result at row `n` of block `t`. -/
theorem out_at (c : Dev nD) (t : Fin cfg0.N) (n : Fin 16384) (h : t.val * 16384 + n.val < 65536) :
    G4 m c (ix1 ⟨t.val * 16384 + n.val, h⟩) =
      k0_pay2 (iblk m c 0 t) (k0_pay4 (m ((c : Thread nD τ).loc main_arg3)))
        (k0_pay5 (m ((c : Thread nD τ).loc main_arg3)) (m ((c : Thread nD τ).loc main_arg2)))
        (k0_pay1 (k0_pay6 (m ((c : Thread nD τ).loc main_arg3)) (m ((c : Thread nD τ).loc main_arg1)) (m ((c : Thread nD τ).loc main_arg2))
          (m ((c : Thread nD τ).loc main_arg2)))) (ix1 n) := by
  have hn := n.isLt
  have hp : pt4Of (ix1 ⟨t.val * 16384 + n.val, h⟩) = t.val := by
    show 1 * ((t.val * 16384 + n.val) / 16384 - 0) = t.val
    omega
  have hl : loc4Of (ix1 ⟨t.val * 16384 + n.val, h⟩) = ix1 n := by
    funext a; apply Fin.ext
    match a with
    | ⟨0, _⟩ => show (t.val * 16384 + n.val) % 16384 = n.val; omega
  unfold G4
  rw [dif_pos (by rw [hp]; exact t.isLt), hl, fold0_congr m c _ _ _ (by rw [Nat.zero_add]; exact t.isLt) hp, ← outsAt0_sweep m c t.val t.isLt, outs, blk_w, blk_mu, blk_sigma]

end Cert.KerRun

end
-- ==== Proof.KerAt.lean ====
/-
  The kernel body's four terms read at an index: the three scratch arrays and the output block.
-/
module

public import proofs.«01_k».proof.Proof.KerRun
public import Idealize.ShloMosaic.Lib.Pointwise

@[expose] public section

noncomputable section

namespace Cert.KerAt

open Cert.KernelIdeal Cert.KernelIdeal.Gen Idealize.ShloMosaic

set_option maxRecDepth 16384

/-- The output block: the logarithm of the sum of exponentials of the components, shifted by their maximum. -/
theorem pay2_at (x : Vec Ideal S16384x64 .f32) (a b : Vec Ideal S16x64 .bf16) (e : Vec Ideal S16x1 .f32) (n : Fin 16384) (A : Fin 16 → EReal)
    (hA : ∀ k, A k = ∑ d, a (ix2 k d) * (x (ix2 n d) * x (ix2 n d)) + ∑ d, b (ix2 k d) * x (ix2 n d) + e (ix2 k 0)) :
    k0_pay2 x a b e (ix1 n) =
      Finset.univ.fold max (Ideal.ofBits .f32 0xFF800000#32) A
        + Ideal.log (∑ k, Ideal.exp (A k - Finset.univ.fold max (Ideal.ofBits .f32 0xFF800000#32) A)) := by
  obtain rfl : A = _ := funext hA
  unfold k0_pay2
  pointwise

/-- The scratch array of the coefficients of the squares. -/
theorem pay4_at (s : Vec Ideal S16x64 .f32) (k : Fin 16) (d : Fin 64) :
    k0_pay4 s (ix2 k d) = Ideal.ofBits .f32 0xBF000000#32 * Ideal.div 1 (s (ix2 k d) * s (ix2 k d)) := by
  unfold k0_pay4 k0_pay3
  pointwise

/-- The scratch array of the coefficients of the rows. -/
theorem pay5_at (s mu : Vec Ideal S16x64 .f32) (k : Fin 16) (d : Fin 64) :
    k0_pay5 s mu (ix2 k d) = mu (ix2 k d) * Ideal.div 1 (s (ix2 k d) * s (ix2 k d)) := by
  unfold k0_pay5 k0_pay3
  pointwise

/-- The scratch array of the constant terms. -/
theorem pay6_at (s mu : Vec Ideal S16x64 .f32) (w : Vec Ideal S16x1 .f32) (k : Fin 16) :
    k0_pay1 (k0_pay6 s w mu mu) (ix2 k 0) =
      Ideal.log (w (ix2 k 0)) - Ideal.ofBits .f32 0x3F000000#32 *
        (Ideal.ofBits .f32 0x42EB3F8E#32 + ∑ d, Ideal.log (s (ix2 k d) * s (ix2 k d))
          + ∑ d, mu (ix2 k d) * mu (ix2 k d) * Ideal.div 1 (s (ix2 k d) * s (ix2 k d))) := by
  unfold k0_pay1 k0_pay6 k0_pay3
  pointwise

end Cert.KerAt

end
-- ==== Proof.RefAt.lean ====
/-
  The reference's named functions read at an index.
-/
module

public import proofs.«01_k».proof.Proof.RefRun
public import Idealize.ShloMosaic.Lib.Pointwise
public import Idealize.ShloMosaic.Lib.Tactic.CleanTypes

@[expose] public section

noncomputable section

namespace Cert.RefAt

open Cert.ReferenceIdeal Cert.ReferenceIdeal.Gen Cert.RefRun Idealize.ShloMosaic

set_option maxRecDepth 16384

theorem logw_at (w : Vec Ideal S16x1 .f32) (k : Fin 16) : refLogw (F := Ideal) w (ix1 k) = Ideal.log (w (ix2 k 0)) := by
  unfold refLogw
  clean_types
  pointwise

theorem quad_at (x : Vec Ideal S65536x64 .f32) (mu s : Vec Ideal S16x64 .f32) (k : Fin 16) (n : Fin 65536) :
    refQuad (F := Ideal) x mu s (ix2 k n) =
      ∑ d, Ideal.div ((x (ix2 n d) - mu (ix2 k d)) * (x (ix2 n d) - mu (ix2 k d))) (s (ix2 k d) * s (ix2 k d)) := by
  unfold refQuad
  clean_types
  pointwise

section Product

variable (s : Vec Ideal S16x64 .f32) (k : Fin 16)

theorem sq_at (j : Fin 64) : RefRun.sq (F := Ideal) s (ix2 k j) = s (ix2 k j) * s (ix2 k j) := by
  unfold RefRun.sq
  pointwise

theorem prod32_at (j : Fin 32) : prod32 (F := Ideal) s (ix2 k j) = RefRun.sq (F := Ideal) s (ix2 k (Fin.castAdd 32 j)) * RefRun.sq (F := Ideal) s (ix2 k (Fin.natAdd 32 j)) := by
  unfold prod32
  pointwise
  rfl

theorem prod16_at (j : Fin 16) : prod16 (F := Ideal) s (ix2 k j) = prod32 (F := Ideal) s (ix2 k (Fin.castAdd 16 j)) * prod32 (F := Ideal) s (ix2 k (Fin.natAdd 16 j)) := by
  unfold prod16
  pointwise
  rfl

theorem prod8_at (j : Fin 8) : prod8 (F := Ideal) s (ix2 k j) = prod16 (F := Ideal) s (ix2 k (Fin.castAdd 8 j)) * prod16 (F := Ideal) s (ix2 k (Fin.natAdd 8 j)) := by
  unfold prod8
  pointwise
  rfl

theorem prod4_at (j : Fin 4) : prod4 (F := Ideal) s (ix2 k j) = prod8 (F := Ideal) s (ix2 k (Fin.castAdd 4 j)) * prod8 (F := Ideal) s (ix2 k (Fin.natAdd 4 j)) := by
  unfold prod4
  pointwise
  rfl

theorem prod2_at (j : Fin 2) : prod2 (F := Ideal) s (ix2 k j) = prod4 (F := Ideal) s (ix2 k (Fin.castAdd 2 j)) * prod4 (F := Ideal) s (ix2 k (Fin.natAdd 2 j)) := by
  unfold prod2
  pointwise
  rfl

theorem prod1_at (j : Fin 1) : prod1 (F := Ideal) s (ix2 k j) = prod2 (F := Ideal) s (ix2 k (Fin.castAdd 1 j)) * prod2 (F := Ideal) s (ix2 k (Fin.natAdd 1 j)) := by
  unfold prod1
  have h : j = 0 := Subsingleton.elim _ _
  subst h
  pointwise
  rfl

/-- A product of pairs taken from the two halves is the product of the whole. -/
theorem prod_halves (h : ℕ) (f : Fin (h + h) → EReal) (g : Fin h → EReal) (hg : ∀ j, g j = f (Fin.castAdd h j) * f (Fin.natAdd h j)) :
    ∏ j, g j = ∏ j, f j := by
  rw [Fin.prod_univ_add, ← Finset.prod_mul_distrib]
  exact Finset.prod_congr rfl fun j _ => hg j

/-- The product by halves is the product of the squared deviations. -/
theorem prod_eq : prod1 (F := Ideal) s (ix2 k 0) = ∏ j : Fin 64, s (ix2 k j) * s (ix2 k j) := by
  have e1 : prod1 (F := Ideal) s (ix2 k 0) = ∏ j : Fin 1, prod1 (F := Ideal) s (ix2 k j) := by rw [Fin.prod_univ_one]
  rw [e1, prod_halves 1 (fun j => prod2 (F := Ideal) s (ix2 k j)) _ (prod1_at s k), prod_halves 2 (fun j => prod4 (F := Ideal) s (ix2 k j)) _ (prod2_at s k),
    prod_halves 4 (fun j => prod8 (F := Ideal) s (ix2 k j)) _ (prod4_at s k), prod_halves 8 (fun j => prod16 (F := Ideal) s (ix2 k j)) _ (prod8_at s k),
    prod_halves 16 (fun j => prod32 (F := Ideal) s (ix2 k j)) _ (prod16_at s k), prod_halves 32 (fun j => RefRun.sq (F := Ideal) s (ix2 k j)) _ (prod32_at s k)]
  exact Finset.prod_congr rfl fun j _ => sq_at s k j

theorem logdet_at : refLogdet (F := Ideal) s (ix1 k) = Ideal.log (∏ j : Fin 64, s (ix2 k j) * s (ix2 k j)) := by
  rw [← prod_eq]
  unfold refLogdet
  clean_types
  pointwise

end Product

theorem comp_at (lw : Vec Ideal S16 .f32) (q : Vec Ideal S16x65536 .f32) (ld : Vec Ideal S16 .f32) (k : Fin 16) (n : Fin 65536) :
    refComp (F := Ideal) lw q ld (ix2 k n) =
      lw (ix1 k) + (Ideal.ofBits .f32 0xBF000000#32 * q (ix2 k n) - Ideal.ofBits .f32 0x3F000000#32 * (Ideal.ofBits .f32 0x42EB3F8E#32 + ld (ix1 k))) := by
  unfold refComp
  pointwise

theorem max_at (a : Vec Ideal S16x65536 .f32) (n : Fin 65536) :
    refMax (F := Ideal) a (ix1 n) = Finset.univ.fold max (Ideal.ofBits .f32 0xFF800000#32) (fun k => a (ix2 k n)) := by
  unfold refMax
  clean_types
  pointwise

theorem shift_at (a : Vec Ideal S16x65536 .f32) (n : Fin 65536) :
    refShift (F := Ideal) a (ix1 n) =
      if max (refMax (F := Ideal) a (ix1 n)) (-refMax (F := Ideal) a (ix1 n)) < Ideal.ofBits .f32 0x7F800000#32 then refMax (F := Ideal) a (ix1 n)
      else 0 := by
  unfold refShift
  pointwise
  rw [Ideal.absf_def]
  simp only [id, constant_apply, Ideal.ofBits_def, Ideal.ofBits_zero_f32]

theorem lse_at (a : Vec Ideal S16x65536 .f32) (n : Fin 65536) :
    refLse (F := Ideal) a (ix1 n) = Ideal.log (∑ k, Ideal.exp (a (ix2 k n) - refShift (F := Ideal) a (ix1 n))) + refShift (F := Ideal) a (ix1 n) := by
  unfold refLse
  pointwise

end Cert.RefAt

end
-- ==== Proof.Tie.lean ====
/-
  The reference's result is the kernel's result function, at every row.
-/
module

public import proofs.«01_k».proof.Proof.KerAt
public import proofs.«01_k».proof.Proof.RefAt
public import proofs.«01_k».proof.Proof.Component

@[expose] public section

noncomputable section

namespace Cert.Tie

open Idealize.ShloMosaic

/-- The real number that the additive constant denotes. -/
def cst : ℝ := 7708615 / 65536

section Values

variable (x : Vec Ideal ⟨2, ![65536, 64]⟩ .f32) (w : Vec Ideal ⟨2, ![16, 1]⟩ .f32) (mu s : Vec Ideal ⟨2, ![16, 64]⟩ .f32)

/-- Component `k` at row `n`, in the reference's form. -/
def comp (n : Fin 65536) (k : Fin 16) : EReal :=
  Component.ref (fun d => x (ix2 n d)) (fun d => mu (ix2 k d)) (fun d => s (ix2 k d)) (Ideal.log (w (ix2 k 0))) cst

/-- The reference's array of components, read at an index. -/
theorem refComp_at (n : Fin 65536) (k : Fin 16) :
    RefRun.refComp (F := Ideal) (RefRun.refLogw w) (RefRun.refQuad x mu s) (RefRun.refLogdet s) (ix2 k n) = comp x w mu s n k := by
  rw [RefAt.comp_at, RefAt.logw_at, RefAt.quad_at, RefAt.logdet_at, Component.bits_half, Component.bits_neg_half, Component.bits_const]
  rfl

/-- The reference's result at row `n`. -/
theorem refOut_at (n : Fin 65536) (M M' : EReal) (hM : M = Finset.univ.fold max ⊥ (comp x w mu s n))
    (hM' : M' = if max M (-M) < ⊤ then M else 0) :
    RefRun.refOut (F := Ideal) x w mu s (ix1 n) = Ideal.log (∑ k, Ideal.exp (comp x w mu s n k - M')) + M' := by
  subst hM'
  subst hM
  unfold RefRun.refOut
  rw [RefAt.lse_at, RefAt.shift_at, RefAt.max_at, Component.bits_neg_inf, Component.bits_inf]
  simp only [refComp_at]

open Cert.KernelIdeal Cert.KernelIdeal.Gen in
/-- The kernel's terms at row `n` of a block of rows that reads `x` at row `N`. -/
theorem kerOut_at (hs : ∀ k d, Ne (α := EReal) (s (ix2 k d)) 0) (X : Vec Ideal ⟨2, ![16384, 64]⟩ .f32) (n : Fin 16384) (N : Fin 65536)
    (hX : ∀ d, X (ix2 n d) = x (ix2 N d)) (M : EReal) (hM : M = Finset.univ.fold max ⊥ (comp x w mu s N)) :
    k0_pay2 (F := Ideal) X (k0_pay4 s) (k0_pay5 s mu) (k0_pay1 (k0_pay6 s w mu mu)) (ix1 n) =
      M + Ideal.log (∑ k, Ideal.exp (comp x w mu s N k - M)) := by
  subst hM
  rw [KerAt.pay2_at X _ _ _ n (comp x w mu s N), Component.bits_neg_inf]
  intro k
  simp only [KerAt.pay4_at, KerAt.pay5_at, KerAt.pay6_at, hX, Component.bits_half, Component.bits_neg_half, Component.bits_const]
  exact (Component.ker_eq_ref _ _ _ _ cst (hs k)).symm

end Values

open Cert.KernelIdeal Cert.KernelIdeal.Gen Cert.KernelIdeal.Value Idealize.ShloMosaic.TcCoe in
/-- The reference's result of the kernel's arguments is the kernel's result. -/
theorem tie (m : (ℓ : Loc nD τ sig) → Buf (Elt Ideal) ℓ) (c : Dev nD)
    (hs : ∀ k d, Ne (α := EReal) (m ((c : Thread nD τ).loc main_arg3) (ix2 k d)) 0)
    (hw : ∀ k, Ne (α := EReal) (m ((c : Thread nD τ).loc main_arg1) (ix2 k 0)) ⊤) :
    RefRun.refOut (F := Ideal) (m ((c : Thread nD τ).loc main_arg0)) (m ((c : Thread nD τ).loc main_arg1)) (m ((c : Thread nD τ).loc main_arg2))
      (m ((c : Thread nD τ).loc main_arg3)) = G4 m c := by
  funext i
  have hi : (i 0).val < 65536 := (i 0).isLt
  have ht : (i 0).val / 16384 < cfg0.N := by rw [KerRun.points]; omega
  have hn : (i 0).val % 16384 < 16384 := Nat.mod_lt _ (by norm_num)
  have hr : (i 0).val / 16384 * 16384 + (i 0).val % 16384 < 65536 := by omega
  have e : i = ix1 ⟨(i 0).val / 16384 * 16384 + (i 0).val % 16384, hr⟩ := by
    funext a; apply Fin.ext
    match a with
    | ⟨0, _⟩ => show (i 0).val = (i 0).val / 16384 * 16384 + (i 0).val % 16384; omega
  rw [e, KerRun.out_at m c ⟨(i 0).val / 16384, ht⟩ ⟨(i 0).val % 16384, hn⟩ hr, refOut_at _ _ _ _ _ _ _ rfl rfl,
    kerOut_at _ _ _ _ hs _ _ ⟨(i 0).val / 16384 * 16384 + (i 0).val % 16384, hr⟩ (fun d => KerRun.blk_x m c ⟨(i 0).val / 16384, ht⟩ ⟨(i 0).val % 16384, hn⟩ d hr) _ rfl]
  exact (Component.lse_eq _ (fun k => Component.ref_ne_top _ _ _ _ cst (hs k) (Component.log_ne_top (hw k))) _ _ rfl rfl).symm

end Cert.Tie

end
-- ==== Proof.lean ====
/-
  The proof of `Cert.Claim` (proofs.«01_k».proof.Defs). The frames of the kernel are its generated ones; the reference's run is
  Proof/RefRun.lean, its counters zero because it declares no semaphore. The value claim reads the kernel's result function and the
  reference's term at each row (Proof/KerAt.lean, Proof/RefAt.lean) and closes by Proof/Tie.lean under the precondition (Proof/Pre.lean).
-/
module

public import proofs.«01_k».proof.Defs
public import proofs.«01_k».proof.Proof.Gen.Kernel.Frame
public import proofs.«01_k».proof.Proof.Gen.KernelIdeal.Value
public import proofs.«01_k».proof.Proof.RefRun
public import proofs.«01_k».proof.Proof.Pre
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and ends with every counter zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.RefRun.run (F := Ideal) m ρ)

/-- The kernel's result is the reference's, under the precondition. -/
theorem algebraic [Cert.Pre_in_domain.Facts] : algebraic_KernelIdeal_ReferenceIdeal_pre_in_domain := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.RefRun.run (F := Ideal) m' ρ')
  rw [(h c).1, (hagree c).1, (hagree c).2.1, (hagree c).2.2.1, (hagree c).2.2.2]
  obtain ⟨hs, hw⟩ := Pre.of_pre _ _ _ _ (hpre c)
  exact Tie.tie m c hs hw

theorem claim : Cert.Claim := ⟨Cert.Kernel.Gen.facts, Cert.KernelIdeal.Gen.facts, Cert.ReferenceIdeal.Gen.facts, Pre.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  haveI := Pre.facts; algebraic⟩

end Cert.Proof

end
